-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_index_is_relative [hPre_index_is_relative : Cert.Pre_index_is_relative.Facts] (m : (ℓ : Loc Cert.KernelIdeal.nD Cert.KernelIdeal.τ Cert.KernelIdeal.sig) → Buf (Elt Ideal) ℓ) : Prop :=
  ∀ c : Dev Cert.KernelIdeal.nD,
    (Cert.Pre_index_is_relative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_is_relative [hPre_index_is_relative : Cert.Pre_index_is_relative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_is_relative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_index_is_relative [hKernelIdeal : Cert.KernelIdeal.Facts] [hPre_index_is_relative : Cert.Pre_index_is_relative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_index_is_relative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_index_is_relative [hReferenceIdeal : Cert.ReferenceIdeal.Facts] [hPre_index_is_relative : Cert.Pre_index_is_relative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_is_relative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_index_is_relative [hKernelIdeal : Cert.KernelIdeal.Facts] [hReferenceIdeal : Cert.ReferenceIdeal.Facts] [hPre_index_is_relative : Cert.Pre_index_is_relative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_index_is_relative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_index_is_relative : Cert.Pre_index_is_relative.Facts),
    quiescent_Kernel (hKernel := hKernel)
    ∧ quiescent_KernelIdeal (hKernelIdeal := hKernelIdeal)
    ∧ quiescent_KernelIdeal_pre_index_is_relative (hKernelIdeal := hKernelIdeal) (hPre_index_is_relative := hPre_index_is_relative)
    ∧ quiescent_ReferenceIdeal (hReferenceIdeal := hReferenceIdeal)
    ∧ quiescent_ReferenceIdeal_pre_index_is_relative (hReferenceIdeal := hReferenceIdeal) (hPre_index_is_relative := hPre_index_is_relative)
    ∧ preserves_Kernel_KernelIdeal
    ∧ algebraic_KernelIdeal_ReferenceIdeal_pre_index_is_relative (hKernelIdeal := hKernelIdeal) (hReferenceIdeal := hReferenceIdeal) (hPre_index_is_relative := hPre_index_is_relative)
-- ==== Pre_index_is_relative.lean ====
abbrev S3969x16 : Shape := ⟨2, ![3969, 16]⟩
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)

variable [Facts]

def fn_part1 {F : FTy → Type} [FloatOps F] (main_arg1 : IVec S1024x1024 32) (main_v8 : IVec S1024x1024 32) (main_v15 : IVec S1024x1024 32) (main_v16 : IVec S1024x1024 32) : IVec S1024x1024 1 :=
  let main_v17 : IVec S1024x1024 32 := muli main_v8 main_v16
  let main_v18 : IVec S1024x1024 32 := addi main_v17 main_v15
  let main_v19 : IVec S1024x1024 1 := cmpi .eq main_arg1 main_v18
  main_v19

def fn {F : FTy → Type} [FloatOps F] (main_arg0 : FVec F S3969x16 .f32) (main_arg1 : IVec S1024x1024 32) : IVec S1024x1024 1 :=
  let main_v0 : IVec S1024x1024 32 := iotaInDim S1024x1024 32 0
  let main_v1 : IVec S1024x1024 32 := iotaInDim S1024x1024 32 1
  let main_c : IVec S_ 32 := constantI S_ 32 32#32
  let main_v2 : IVec S1024x1024 32 := broadcastInDim S1024x1024 ![] bcast_S_S1024x1024 main_c
  let main_v3 : IVec S1024x1024 32 := Host.divsi main_v0 main_v2
  let main_c_0 : IVec S_ 32 := constantI S_ 32 32#32
  let main_v4 : IVec S1024x1024 32 := broadcastInDim S1024x1024 ![] bcast_S_S1024x1024 main_c_0
  let main_v5 : IVec S1024x1024 32 := Host.divsi main_v1 main_v4
  let main_v6 : IVec S1024x1024 32 := subi main_v3 main_v5
  let main_c_1 : IVec S_ 32 := constantI S_ 32 31#32
  let main_v7 : IVec S1024x1024 32 := broadcastInDim S1024x1024 ![] bcast_S_S1024x1024 main_c_1
  let main_v8 : IVec S1024x1024 32 := addi main_v6 main_v7
  let main_c_2 : IVec S_ 32 := constantI S_ 32 32#32
  let main_v9 : IVec S1024x1024 32 := broadcastInDim S1024x1024 ![] bcast_S_S1024x1024 main_c_2
  let main_v10 : IVec S1024x1024 32 := Host.remsi main_v0 main_v9
  let main_c_3 : IVec S_ 32 := constantI S_ 32 32#32
  let main_v11 : IVec S1024x1024 32 := broadcastInDim S1024x1024 ![] bcast_S_S1024x1024 main_c_3
  let main_v12 : IVec S1024x1024 32 := Host.remsi main_v1 main_v11
  let main_v13 : IVec S1024x1024 32 := subi main_v10 main_v12
  let main_c_4 : IVec S_ 32 := constantI S_ 32 31#32
  let main_v14 : IVec S1024x1024 32 := broadcastInDim S1024x1024 ![] bcast_S_S1024x1024 main_c_4
  let main_v15 : IVec S1024x1024 32 := addi main_v13 main_v14
  let main_c_5 : IVec S_ 32 := constantI S_ 32 63#32
  let main_v16 : IVec S1024x1024 32 := broadcastInDim S1024x1024 ![] bcast_S_S1024x1024 main_c_5
  fn_part1 (F := F) main_arg1 main_v8 main_v15 main_v16
-- ==== Kernel.lean ====
abbrev S3969x16 : Shape := ⟨2, ![3969, 16]⟩
abbrev S1024x1024 : Shape := ⟨2, ![1024, 1024]⟩
abbrev S32x8x4 : Shape := ⟨3, ![32, 8, 4]⟩
abbrev S63x63x16 : Shape := ⟨3, ![63, 63, 16]⟩
abbrev S16x63x63 : Shape := ⟨3, ![16, 63, 63]⟩
abbrev S_ : Shape := ⟨0, ![]⟩
abbrev S16x63x64 : Shape := ⟨3, ![16, 63, 64]⟩
abbrev S32x8x4x1 : Shape := ⟨4, ![32, 8, 4, 1]⟩
abbrev S16x32x8x4x64 : Shape := ⟨5, ![16, 32, 8, 4, 64]⟩
abbrev S32x8x16x4x64 : Shape := ⟨5, ![32, 8, 16, 4, 64]⟩
abbrev S32x128x256 : Shape := ⟨3, ![32, 128, 256]⟩
abbrev S256x4096 : Shape := ⟨2, ![256, 4096]⟩
abbrev S16x1024x1024 : Shape := ⟨3, ![16, 1024, 1024]⟩
abbrev S1x128x256 : Shape := ⟨3, ![1, 128, 256]⟩
abbrev S16x32x1024 : Shape := ⟨3, ![16, 32, 1024]⟩
abbrev S128x256 : Shape := ⟨2, ![128, 256]⟩
abbrev S128x4096 : Shape := ⟨2, ![128, 4096]⟩
abbrev S128x128 : Shape := ⟨2, ![128, 128]⟩
abbrev S16x128 : Shape := ⟨2, ![16, 128]⟩
abbrev S16x1024 : Shape := ⟨2, ![16, 1024]⟩
abbrev S16x1x1024 : Shape := ⟨3, ![16, 1, 1024]⟩

abbrev nBuf : Space → Nat
  | .hbm => 48
  | .vmem => 5
  | .smem => 0
  | _ => 0

abbrev bufTy : (tb : Table) → Fin (tcTables nBuf tb) → BufTy
  | .hbm, ⟨0, _⟩ => ⟨S3969x16, .f32⟩
  | .hbm, ⟨1, _⟩ => ⟨S1024x1024, .i32⟩
  | .hbm, ⟨2, _⟩ => ⟨S32x8x4, .i32⟩
  | .hbm, ⟨3, _⟩ => ⟨S32x8x4, .i1⟩
  | .hbm, ⟨4, _⟩ => ⟨S3969x16, .f32⟩
  | .hbm, ⟨5, _⟩ => ⟨S63x63x16, .f32⟩
  | .hbm, ⟨6, _⟩ => ⟨S16x63x63, .f32⟩
  | .hbm, ⟨7, _⟩ => ⟨S_, .i32⟩
  | .hbm, ⟨8, _⟩ => ⟨S_, .f32⟩
  | .hbm, ⟨9, _⟩ => ⟨S16x63x64, .f32⟩
  | .hbm, ⟨10, _⟩ => ⟨S_, .i32⟩
  | .hbm, ⟨11, _⟩ => ⟨S32x8x4, .i32⟩
  | .hbm, ⟨12, _⟩ => ⟨S32x8x4, .i32⟩
  | .hbm, ⟨13, _⟩ => ⟨S32x8x4, .i32⟩
  | .hbm, ⟨14, _⟩ => ⟨S32x8x4x1, .i32⟩
  | .hbm, ⟨15, _⟩ => ⟨S16x32x8x4x64, .f32⟩
  | .hbm, ⟨16, _⟩ => ⟨S32x8x16x4x64, .f32⟩
  | .hbm, ⟨17, _⟩ => ⟨S32x128x256, .f32⟩
  | .hbm, ⟨18, _⟩ => ⟨S32x128x256, .bf16⟩
  | .hbm, ⟨19, _⟩ => ⟨S256x4096, .i32⟩
  | .hbm, ⟨20, _⟩ => ⟨S256x4096, .i32⟩
  | .hbm, ⟨21, _⟩ => ⟨S_, .i32⟩
  | .hbm, ⟨22, _⟩ => ⟨S256x4096, .i32⟩
  | .hbm, ⟨23, _⟩ => ⟨S256x4096, .i32⟩
  | .hbm, ⟨24, _⟩ => ⟨S_, .i32⟩
  | .hbm, ⟨25, _⟩ => ⟨S256x4096, .i32⟩
  | .hbm, ⟨26, _⟩ => ⟨S256x4096, .i32⟩
  | .hbm, ⟨27, _⟩ => ⟨S_, .i32⟩
  | .hbm, ⟨28, _⟩ => ⟨S256x4096, .i32⟩
  | .hbm, ⟨29, _⟩ => ⟨S256x4096, .i32⟩
  | .hbm, ⟨30, _⟩ => ⟨S_, .i32⟩
  | .hbm, ⟨31, _⟩ => ⟨S256x4096, .i32⟩
  | .hbm, ⟨32, _⟩ => ⟨S256x4096, .i32⟩
  | .hbm, ⟨33, _⟩ => ⟨S_, .i32⟩
  | .hbm, ⟨34, _⟩ => ⟨S256x4096, .i32⟩
  | .hbm, ⟨35, _⟩ => ⟨S256x4096, .i32⟩
  | .hbm, ⟨36, _⟩ => ⟨S_, .i32⟩
  | .hbm, ⟨37, _⟩ => ⟨S256x4096, .i32⟩
  | .hbm, ⟨38, _⟩ => ⟨S256x4096, .i32⟩
  | .hbm, ⟨39, _⟩ => ⟨S256x4096, .i32⟩
  | .hbm, ⟨40, _⟩ => ⟨S256x4096, .i32⟩
  | .hbm, ⟨41, _⟩ => ⟨S256x4096, .i1⟩
  | .hbm, ⟨42, _⟩ => ⟨S_, .bf16⟩
  | .hbm, ⟨43, _⟩ => ⟨S_, .bf16⟩
  | .hbm, ⟨44, _⟩ => ⟨S256x4096, .bf16⟩
  | .hbm, ⟨45, _⟩ => ⟨S256x4096, .bf16⟩
  | .hbm, ⟨46, _⟩ => ⟨S256x4096, .bf16⟩
  | .hbm, ⟨47, _⟩ => ⟨S16x1024x1024, .f32⟩
  | .local _ .vmem, ⟨0, _⟩ => ⟨S1x128x256, .bf16⟩
  | .local _ .vmem, ⟨1, _⟩ => ⟨S1x128x256, .bf16⟩
  | .local _ .vmem, ⟨2, _⟩ => ⟨S256x4096, .bf16⟩
  | .local _ .vmem, ⟨3, _⟩ => ⟨S16x32x1024, .f32⟩
  | .local _ .vmem, ⟨4, _⟩ => ⟨S16x32x1024, .f32⟩
  | _, _ => ⟨S3969x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_call0_v0 : Ref sig .tc := ⟨.hbm, 8, rfl⟩
abbrev main_v3 : Ref sig .tc := ⟨.hbm, 9, rfl⟩
abbrev main_c_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_c_8 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_cst_9 : Ref sig .tc := ⟨.hbm, 43, rfl⟩
abbrev main_call1_v0 : Ref sig .tc := ⟨.hbm, 44, rfl⟩
abbrev main_call1_v1 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S3969x16 : Shape := ⟨2, ![3969, 16]⟩
abbrev S1024x1024 : Shape := ⟨2, ![1024, 1024]⟩
abbrev S1048576 : Shape := ⟨1, ![1048576]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048576x16 : Shape := ⟨2, ![1048576, 16]⟩
abbrev S1024x1024x16 : Shape := ⟨3, ![1024, 1024, 16]⟩
abbrev S16x1024x1024 : Shape := ⟨3, ![16, 1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S3969x16, .f32⟩
  | .hbm, ⟨1, _⟩ => ⟨S1024x1024, .i32⟩
  | .hbm, ⟨2, _⟩ => ⟨S1048576, .i32⟩
  | .hbm, ⟨3, _⟩ => ⟨S_, .i32⟩
  | .hbm, ⟨4, _⟩ => ⟨S1048576, .i32⟩
  | .hbm, ⟨5, _⟩ => ⟨S1048576, .i1⟩
  | .hbm, ⟨6, _⟩ => ⟨S_, .i32⟩
  | .hbm, ⟨7, _⟩ => ⟨S1048576, .i32⟩
  | .hbm, ⟨8, _⟩ => ⟨S1048576, .i32⟩
  | .hbm, ⟨9, _⟩ => ⟨S1048576, .i32⟩
  | .hbm, ⟨10, _⟩ => ⟨S1048576x1, .i32⟩
  | .hbm, ⟨11, _⟩ => ⟨S1, .i32⟩
  | .hbm, ⟨12, _⟩ => ⟨S_, .i32⟩
  | .hbm, ⟨13, _⟩ => ⟨S1048576x1, .i32⟩
  | .hbm, ⟨14, _⟩ => ⟨S1048576x1, .i1⟩
  | .hbm, ⟨15, _⟩ => ⟨S1x1, .i32⟩
  | .hbm, ⟨16, _⟩ => ⟨S1048576x1, .i32⟩
  | .hbm, ⟨17, _⟩ => ⟨S1048576x1, .i1⟩
  | .hbm, ⟨18, _⟩ => ⟨S1048576x1, .i1⟩
  | .hbm, ⟨19, _⟩ => ⟨S_, .i1⟩
  | .hbm, ⟨20, _⟩ => ⟨S1048576, .i1⟩
  | .hbm, ⟨21, _⟩ => ⟨S1048576x16, .f32⟩
  | .hbm, ⟨22, _⟩ => ⟨S1048576x16, .i1⟩
  | .hbm, ⟨23, _⟩ => ⟨S_, .f32⟩
  | .hbm, ⟨24, _⟩ => ⟨S1048576x16, .f32⟩
  | .hbm, ⟨25, _⟩ => ⟨S1048576x16, .f32⟩
  | .hbm, ⟨26, _⟩ => ⟨S1024x1024x16, .f32⟩
  | .hbm, ⟨27, _⟩ => ⟨S16x1024x1024, .f32⟩
  | _, _ => ⟨S3969x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Bias.lean ====
/-
  The function both programs compute: head `h` of the table at the entry that the positions `q` and `k` of a 32 by 32
  grid name by their row and column differences.
-/
module

public import Idealize.ShloMosaic.Lib.ValueIdxCore

@[expose] public section

noncomputable section

namespace Cert.Bias

open Idealize.ShloMosaic Idealize.ShloMosaic.ValueIdx

/-- The table's row for the positions `q` and `k`: 63 times the row difference plus the column difference, each shifted
    by 31. -/
def entry (q k : Fin 1024) : Fin 3969 :=
  ⟨63 * (q.val / 32 + 31 - k.val / 32) + (q.val % 32 + 31 - k.val % 32), by omega⟩

/-- The expanded bias of the table `x`: head, query position, key position. -/
def expand {α : Type} (x : (⟨2, ![3969, 16]⟩ : Shape).Idx → α) : (⟨3, ![16, 1024, 1024]⟩ : Shape).Idx → α :=
  fun y => x (ix2 (entry (y 1) (y 2)) (y 0))

end Cert.Bias

end
-- ==== Proof.Pre.lean ====
/-
  What the precondition says of the index array: at every pair of positions it holds the table's row for that pair.
-/
module

public import proofs.«01_k».proof.Pre_index_is_relative
public import proofs.«01_k».proof.Proof.Bias
public import Idealize.ShloMosaic.Lib.Routing.Words
public import Idealize.ShloMosaic.Lib.WordCmp

@[expose] public section

set_option maxRecDepth 16384

noncomputable section

namespace Cert.Pre_index_is_relative

open Idealize.ShloMosaic Idealize.ShloMosaic.ValueIdx

/-- A number broadcasts to the index array's shape. -/
theorem facts : Facts := ⟨by decide⟩

/-- The words the precondition compares with: 63 times the shifted row difference plus the shifted column difference is
    the pair's row of the table. -/
theorem words (q k : Fin 1024) :
    (((BitVec.ofNat 32 (q.val / 32) - BitVec.ofNat 32 (k.val / 32) + 31#32) * 63#32
      + (BitVec.ofNat 32 (q.val % 32) - BitVec.ofNat 32 (k.val % 32) + 31#32) : BitVec 32))
      = BitVec.ofNat 32 (Bias.entry q k).val := by
  have hq := q.isLt
  have hk := k.isLt
  apply BitVec.eq_of_toNat_eq
  simp only [BitVec.toNat_add, BitVec.toNat_sub, BitVec.toNat_mul, BitVec.toNat_ofNat, Bias.entry]
  omega

/-- Under the precondition the index array holds, at the positions `q` and `k`, the pair's row of the table. -/
theorem index_eq [Facts] {F : FTy → Type} [FloatOps F] (x : FVec F S3969x16 .f32) (idx : IVec S1024x1024 32)
    (h : fn (F := F) x idx = fun _ => 1#1) (q k : Fin 1024) : idx (ix2 q k) = BitVec.ofNat 32 (Bias.entry q k).val := by
  have hq := q.isLt
  have hk := k.isLt
  have e : IntOp.cmpi .eq (idx (ix2 q k))
      ((IntOp.divsi .host (BitVec.ofNat 32 q.val) (BitVec.ofNat 32 32) - IntOp.divsi .host (BitVec.ofNat 32 k.val) (BitVec.ofNat 32 32)
          + 31#32) * 63#32
        + (IntOp.remsi .host (BitVec.ofNat 32 q.val) (BitVec.ofNat 32 32) - IntOp.remsi .host (BitVec.ofNat 32 k.val) (BitVec.ofNat 32 32)
          + 31#32)) = 1#1 := congrFun h (ix2 q k)
  rw [Routing.divsi_word .host (by omega) (by omega) (by omega), Routing.divsi_word .host (by omega) (by omega) (by omega),
    Routing.remsi_word .host (by omega) (by omega) (by omega), Routing.remsi_word .host (by omega) (by omega) (by omega),
    words, WordCmp.cmpi_eq_eq] at e
  exact (WordCmp.ofBool_decide_eq_one_iff _).1 e

end Cert.Pre_index_is_relative

end
-- ==== Proof.HostTerms.lean ====
/-
  The two arrays the host prepares for the kernel, as functions of the bias table: the 32 weight blocks and the selector.
-/
module

public import proofs.«01_k».proof.Proof.Gen.KernelIdeal.Value
public import Idealize.ShloMosaic.Lib.StableHlo.Run

@[expose] public section

set_option maxRecDepth 16384

noncomputable section

namespace Cert.KernelIdeal.Prep

open Cert.KernelIdeal Cert.KernelIdeal.Gen Idealize.ShloMosaic Idealize.ShloMosaic.TcCoe

variable {F : FTy → Type} [FloatOps F]

/-- The reversed table as one 63 by 64 plane per head, the last column of each filled with zeros. -/
def planes (x : FVec F S3969x16 .f32) : FVec F S16x63x64 .f32 :=
  pad S16x63x64 ![0, 0, 0] ![0, 0, 1] ![0, 0, 0]
    (transpose S16x63x63 [2, 0, 1] (shapeCast S63x63x16 (Host.reverse [0] x) shapeCasts_S3969x16_S63x63x16)
      transposes_S63x63x16_S16x63x63_2_0_1)
    (sitofp .f32 (constantI S_ 32 0#32)) pads_S16x63x63_S16x63x64_000_000_010 h_S_

/-- The plane row that block `s`, group `g`, part `k` starts from. -/
def rows : IVec S32x8x4x1 32 :=
  broadcastInDim S32x8x4x1 ![0, 1, 2] bcast_S32x8x4_S32x8x4x1_0_1_2
    (select (constantI S32x8x4 1 0#1)
      (addi (fun i => lit0 (S32x8x4.rowMajor i)) (broadcastInDim S32x8x4 ![] bcast_S_S32x8x4 (constantI S_ 32 63#32)))
      (fun i => lit0 (S32x8x4.rowMajor i)))

/-- The weight blocks: four plane rows side by side, for every head of every group. -/
def weights (x : FVec F S3969x16 .f32) : FVec F S32x128x256 .bf16 :=
  truncf .bf16 (shapeCast S32x128x256
    (transpose S32x8x16x4x64 [1, 2, 0, 3, 4]
      (Host.gather gather_S16x63x64_S32x8x4x1_S16x32x8x4x64_04_1_n_n_1_3_16164 (planes x) rows)
      transposes_S16x32x8x4x64_S32x8x16x4x64_1_2_0_3_4)
    shapeCasts_S32x8x16x4x64_S32x128x256) bitsLt_bf16_f32

/-- The constant `n` at every position of the selector's shape. -/
def lit (n : BitVec 32) : IVec S256x4096 32 := broadcastInDim S256x4096 ![] bcast_S_S256x4096 (constantI S_ 32 n)

/-- The row that holds the one of each column, as words. -/
def target : IVec S256x4096 32 :=
  addi (subi (addi (muli (lit 64#32) (Host.divsi (Host.remsi (iotaInDim S256x4096 32 1) (lit 128#32)) (lit 32#32))) (lit 31#32))
      (Host.divsi (iotaInDim S256x4096 32 1) (lit 128#32)))
    (Host.remsi (Host.remsi (iotaInDim S256x4096 32 1) (lit 128#32)) (lit 32#32))

/-- The selector: one where the row is the column's target, zero elsewhere. -/
def selector : FVec F S256x4096 .bf16 :=
  select (cmpi .eq (iotaInDim S256x4096 32 0) target)
    (broadcastInDim S256x4096 ![] bcast_S_S256x4096 (constant S_ .bf16 0x3F80#16))
    (broadcastInDim S256x4096 ![] bcast_S_S256x4096 (constant S_ .bf16 0x0000#16))

variable (m : (ℓ : Loc nD τ sig) → Buf (Elt F) ℓ)

/-- The kernel's first operand is the weight blocks of the table. -/
theorem V_weights (c : Dev nD) : V m c main_v11 = weights (m ((c : Thread nD τ).loc main_arg0)) := by
  show StableHlo.after (List.flatten [hostOps0, hostOps0_1, hostOps0_2, hostOps0_3]) _ (Proc.devRef .tc main_v11) = _
  simp only [hostOps0, hostOps0_1, hostOps0_2, hostOps0_3, List.flatten_cons, List.flatten_nil, List.append_nil, List.cons_append, List.nil_append]
  after_results
  rfl

/-- The kernel's second operand is the selector. -/
theorem V_selector (c : Dev nD) : V m c main_v29 = selector (F := F) := by
  show StableHlo.after (List.flatten [hostOps0, hostOps0_1, hostOps0_2, hostOps0_3]) _ (Proc.devRef .tc main_v29) = _
  simp only [hostOps0, hostOps0_1, hostOps0_2, hostOps0_3, List.flatten_cons, List.flatten_nil, List.append_nil, List.cons_append, List.nil_append]
  after_results
  rfl

end Cert.KernelIdeal.Prep

end
-- ==== Proof.Expand.lean ====
/-
  What one call of the kernel's body leaves in its output block, over any arithmetic: the block is a re-arrangement of
  the product of its two input blocks. Row `16 * g + h` and column `128 * w + l` of the product go to head `h`, row `w`,
  column `128 * g + l` of the output block.
-/
module

public import proofs.«01_k».proof.Proof.Gen.KernelIdeal.Value
public import Idealize.ShloMosaic.Lib.Pipeline.Value
public import Idealize.ShloMosaic.Lib.Pipeline.ValueKit.Tiles
public import Idealize.ShloMosaic.Lib.ValueIdxCore

@[expose] public section

set_option maxRecDepth 16384

noncomputable section

namespace Cert.KernelIdeal.Expand

open Cert.KernelIdeal Cert.KernelIdeal.Gen Idealize.ShloMosaic Idealize.ShloMosaic.TcCoe Idealize.ShloMosaic.ValueIdx

variable {F : FTy → Type} [FloatOps F]

/-- The position in the product that head `h`, row `w`, column `j` of the output block reads. -/
def src (h : Fin 16) (w : Fin 32) (j : Fin 1024) : S128x4096.Idx :=
  ix2 (n0 := 128) (n1 := 4096) ⟨16 * (j.val / 128) + h.val, by omega⟩ ⟨128 * w.val + j.val % 128, by omega⟩

/-- The output block as a re-arrangement of the product `z`. -/
def spread (z : FVec F S128x4096 .f32) : FVec F S16x32x1024 .f32 :=
  fun y => z (src (y 0) (y 1) (y 2))

/-- Slab `g` of sixteen rows is inside the 128 rows. -/
theorem slab_slices (g : Fin 8) : S128x128.Slices ![16 * g.val, 0] S16x128 :=
  (by decide : ∀ g : Fin 8, S128x128.Slices ![16 * g.val, 0] S16x128) g

/-- Band `w` of 128 columns is inside the 4096 columns. -/
theorem band_slices (w : Fin 32) : S128x4096.Slices ![0, 128 * w.val] S128x128 :=
  (by decide : ∀ w : Fin 32, S128x4096.Slices ![0, 128 * w.val] S128x128) w

/-- Row `w` of the output block is inside it. -/
theorem row_inside (w : Fin 32) (a : Fin 3) : (![0, w.val, 0] : Fin 3 → Nat) a + S16x1x1024.size a ≤ S16x32x1024.size a :=
  (by decide : ∀ (w : Fin 32) (a : Fin 3), (![0, w.val, 0] : Fin 3 → Nat) a + S16x1x1024.size a ≤ S16x32x1024.size a) w a

/-- The eight slabs of a band laid side by side, read at head `h` and column `j`: row `16 * (j / 128) + h`, column
    `j % 128` of the band. -/
theorem row_apply (v : FVec F S128x128 .f32) (h : Fin 16) (u : Fin 1) (j : Fin 1024) :
    k0_pay1 v (ix3 h u j)
      = v (ix2 (n0 := 128) (n1 := 128) ⟨16 * (j.val / 128) + h.val, by omega⟩ ⟨j.val % 128, by omega⟩) := by
  unfold k0_pay1
  refine (shapeCast_apply _ _ _ (ix2 h j) ?_).trans ?_
  · rw [Shape.rowMajor_val_two, Shape.rowMajor_val_three]
    show h.val * 1024 + j.val = (h.val * 1 + u.val) * 1024 + j.val
    omega
  refine (concatenate_ofFn_apply (s₁ := S16x128) (t := S16x1024) 1
    (fun g : Fin 8 => extractStridedSlice S16x128 ![16 * g.val, 0] v (slab_slices g)) _ rfl 128 rfl (ix2 h j)
    ⟨j.val / 128, by omega⟩ rfl (ix2 (n0 := 16) (n1 := 128) h ⟨j.val % 128, by omega⟩) rfl ?_).trans ?_
  · intro b hb
    match b with
    | ⟨0, _⟩ => rfl
    | ⟨1, _⟩ => exact absurd rfl hb
  · unfold extractStridedSlice
    congr 1
    funext a; apply Fin.ext
    match a with
    | ⟨0, _⟩ => rfl
    | ⟨1, _⟩ => exact Nat.zero_add _

/-- Row `w` of the output block in the product: band `w`, its eight slabs side by side. -/
theorem row_spread (z : FVec F S128x4096 .f32) (w : Fin 32) (y : S16x32x1024.Idx) :
    View.TileAt (S := S16x32x1024) (Val := Elt F) (e := .f32) y ![0, w.val, 0] S16x1x1024.size
      (k0_pay1 (extractStridedSlice S128x128 ![0, 128 * w.val] z (band_slices w))) (spread z y) := by
  intro x hx
  have e0 : (y 0 : Nat) = 0 + (x 0).val := hx 0
  have e1 : (y 1 : Nat) = w.val + (x 1).val := hx 1
  have e2 : (y 2 : Nat) = 0 + (x 2).val := hx 2
  have u1 : (x 1).val < 1 := (x 1).isLt
  refine (congrArg _ (eq_ix3 (n0 := 16) (n1 := 1) (n2 := 1024) x)).trans ((row_apply _ _ _ _).trans ?_)
  show z _ = z _
  congr 1
  funext a; apply Fin.ext
  match a with
  | ⟨0, _⟩ =>
    show 0 + (16 * ((x 2).val / 128) + (x 0).val) = 16 * ((y 2).val / 128) + (y 0).val
    rw [e2, e0]; omega
  | ⟨1, _⟩ =>
    show 128 * w.val + (x 2).val % 128 = 128 * (y 1).val + (y 2).val % 128
    rw [e2, e1]; omega

/-- Some row of the output block holds each of its positions. -/
theorem row_cover (y : S16x32x1024.Idx) :
    ∃ k : Fin 32, ∀ a : Fin 3, (![0, k.rev.val, 0] : Fin 3 → Nat) a ≤ y a ∧ (y a : Nat) < (![0, k.rev.val, 0] : Fin 3 → Nat) a + S16x1x1024.size a := by
  have h0 : (y 0 : Nat) < 16 := (y 0).isLt
  have h1 : (y 1 : Nat) < 32 := (y 1).isLt
  have h2 : (y 2 : Nat) < 1024 := (y 2).isLt
  refine ⟨⟨31 - (y 1).val, by omega⟩, fun a => ?_⟩
  match a with
  | ⟨0, _⟩ => exact ⟨Nat.zero_le _, by show (y 0 : Nat) < 0 + 16; omega⟩
  | ⟨1, _⟩ =>
    show 32 - (31 - (y 1).val + 1) ≤ (y 1).val ∧ (y 1).val < 32 - (31 - (y 1).val + 1) + 1
    omega
  | ⟨2, _⟩ => exact ⟨Nat.zero_le _, by show (y 2 : Nat) < 0 + 1024; omega⟩

/-- The body's stores, last first: row `31 - k` of the output block gets the eight slabs of band `31 - k`. -/
theorem out_eq (x0 : Vec F S1x128x256 .bf16) (x1 : Vec F S256x4096 .bf16) :
    out0_2 x0 x1 = View.canon (List.ofFn fun k : Fin 32 =>
      (⟨Rect.unit (s := S16x32x1024) ![0, k.rev.val, 0] S16x1x1024.size (row_inside k.rev),
        k0_pay1 (extractStridedSlice S128x128 ![0, 128 * k.rev.val] (k0_pay67 x0 x1) (band_slices k.rev))⟩ :
          View.Piece (Elt F) S16x32x1024 .f32)) := rfl

/-- So the output block is the product spread out. -/
theorem out_spread (x0 : Vec F S1x128x256 .bf16) (x1 : Vec F S256x4096 .bf16) :
    out0_2 x0 x1 = spread (k0_pay67 x0 x1) := by
  rw [out_eq]
  funext y
  exact View.canon_ofFn_unit_eq_of_forall (S := S16x32x1024) (fun k : Fin 32 => ![0, k.rev.val, 0]) S16x1x1024.size
    (fun k => row_inside k.rev) _ y _ (row_cover y) (fun k => row_spread _ k.rev y)

end Cert.KernelIdeal.Expand

end
-- ==== Proof.Product.lean ====
/-
  The product of the body over the extended reals, when the second input block selects: column `p` of that block is one
  at row `pick p` and zero elsewhere, so column `p` of the product is column `pick p` of the first block.
-/
module

public import proofs.«01_k».proof.Proof.Expand
public import Idealize.ShloMosaic.Lib.MatmulPlain
public import Idealize.ShloMosaic.PureOps.Ideal.Laws

@[expose] public section

set_option maxRecDepth 16384

noncomputable section

namespace Cert.KernelIdeal.Expand

open Cert.KernelIdeal Cert.KernelIdeal.Gen Idealize.ShloMosaic Idealize.ShloMosaic.TcCoe Idealize.ShloMosaic.ValueIdx

/-- The row of the selector that holds the one of column `p`: of the 64 columns of part `(p % 128) / 32`, the one at
    distance `31 - p / 128 + p % 32`. -/
def pick (p : Fin 4096) : Fin 256 := ⟨64 * (p.val % 128 / 32) + (31 - p.val / 128) + p.val % 32, by omega⟩

/-- The product at row `r`, column `p` is the sum over the 256 shared positions. -/
theorem product_apply (x0 : Vec Ideal S1x128x256 .bf16) (x1 : Vec Ideal S256x4096 .bf16) (r : Fin 128) (p : Fin 4096) :
    k0_pay67 x0 x1 (ix2 r p)
      = ∑ k : Fin 256, (x0 (ix3 (n0 := 1) 0 r k) : EReal) * (x1 (ix2 k p) : EReal) := by
  have hz3 : (![0, 0, 0] : Fin 3 → Nat) = fun _ => 0 := funext fun a => by fin_cases a <;> rfl
  have hz2 : (![0, 0] : Fin 2 → Nat) = fun _ => 0 := funext fun a => by fin_cases a <;> rfl
  unfold k0_pay67 k0_pay2
  rw [View.ld_unit_zero hz3, View.ld_unit_zero hz2]
  refine (Ideal.matmul_plain_apply (M := 128) (K := 256) (N := 4096) none _ _ _ r p).trans ?_
  have h0 : (constant S128x4096 .f32 0x00000000#32 : FVec Ideal S128x4096 .f32) (ix2 r p) = 0 := Ideal.ofBits_zero_f32
  rw [h0, zero_add]
  refine Finset.sum_congr rfl fun k _ => ?_
  congr 1
  · refine (shapeCast_dropUnit_apply (n := 2) ![128, 256] _ _ (ix2 r k)).trans (congrArg x0 ?_)
    funext a; apply Fin.ext
    match a with
    | ⟨0, _⟩ => rfl
    | ⟨1, _⟩ => rfl
    | ⟨2, _⟩ => rfl
  · exact congrFun (shapeCast_self _ _) _

/-- Against a selector, the sum has one term: column `p` of the product is column `pick p` of the first block. -/
theorem product_select (x0 : Vec Ideal S1x128x256 .bf16) (x1 : Vec Ideal S256x4096 .bf16)
    (hx1 : ∀ (k : Fin 256) (p : Fin 4096), (x1 (ix2 k p) : EReal) = if k = pick p then 1 else 0)
    (r : Fin 128) (p : Fin 4096) :
    k0_pay67 x0 x1 (ix2 r p) = x0 (ix3 (n0 := 1) 0 r (pick p)) := by
  rw [product_apply, Finset.sum_eq_single (pick p)]
  · rw [hx1, if_pos rfl, mul_one]
  · intro k _ hk
    rw [hx1, if_neg hk, mul_zero]
  · intro h
    exact absurd (Finset.mem_univ _) h

end Cert.KernelIdeal.Expand

end
-- ==== Proof.Selector.lean ====
/-
  The selector read at an index over the extended reals: column `p` is one at row `pick p` and zero elsewhere.
-/
module

public import proofs.«01_k».proof.Proof.HostTerms
public import proofs.«01_k».proof.Proof.Product
public import Idealize.ShloMosaic.Lib.Routing.Words
public import Idealize.ShloMosaic.Lib.WordCmp
public import Idealize.ShloMosaic.Lib.IdealHost

@[expose] public section

set_option maxRecDepth 16384

noncomputable section

namespace Cert.KernelIdeal.Prep

open Cert.KernelIdeal Cert.KernelIdeal.Gen Cert.KernelIdeal.Expand Idealize.ShloMosaic Idealize.ShloMosaic.TcCoe
  Idealize.ShloMosaic.ValueIdx

/-- The quotient of a column number by `n`, as a word. -/
theorem div_apply (x : IVec S256x4096 32) (i : S256x4096.Idx) (a n : Nat) (hx : x i = BitVec.ofNat 32 a)
    (ha : a < 2 ^ 31) (h0 : 0 < n) (hn : n < 2 ^ 31) :
    Host.divsi x (lit (BitVec.ofNat 32 n)) i = BitVec.ofNat 32 (a / n) := by
  show IntOp.divsi .host (x i) (BitVec.ofNat 32 n) = _
  rw [hx, Routing.divsi_word .host ha h0 hn]

/-- The remainder of a column number by `n`, as a word. -/
theorem rem_apply (x : IVec S256x4096 32) (i : S256x4096.Idx) (a n : Nat) (hx : x i = BitVec.ofNat 32 a)
    (ha : a < 2 ^ 31) (h0 : 0 < n) (hn : n < 2 ^ 31) :
    Host.remsi x (lit (BitVec.ofNat 32 n)) i = BitVec.ofNat 32 (a % n) := by
  show IntOp.remsi .host (x i) (BitVec.ofNat 32 n) = _
  rw [hx, Routing.remsi_word .host ha h0 hn]

/-- The words of the target at row `k`, column `p` are the number `pick p`. -/
theorem target_apply (k : Fin 256) (p : Fin 4096) : target (ix2 k p) = BitVec.ofNat 32 (pick p).val := by
  have hp := p.isLt
  have hi : iotaInDim S256x4096 32 1 (ix2 k p) = BitVec.ofNat 32 p.val := rfl
  have e1 := div_apply _ _ p.val 128 hi (by omega) (by omega) (by omega)
  have e2 := rem_apply _ _ p.val 128 hi (by omega) (by omega) (by omega)
  have e3 := div_apply _ _ (p.val % 128) 32 e2 (by omega) (by omega) (by omega)
  have e4 := rem_apply _ _ (p.val % 128) 32 e2 (by omega) (by omega) (by omega)
  show (64#32 * _ + 31#32 - _ + _ : BitVec 32) = _
  rw [e3, e4, e1]
  apply BitVec.eq_of_toNat_eq
  simp only [BitVec.toNat_add, BitVec.toNat_sub, BitVec.toNat_mul, BitVec.toNat_ofNat, pick]
  omega

/-- The selector at row `k`, column `p`: one when `k` is `pick p`, zero otherwise. -/
theorem selector_apply (k : Fin 256) (p : Fin 4096) :
    (selector (F := Ideal) (ix2 k p) : EReal) = if k = pick p then 1 else 0 := by
  have hk := k.isLt
  have hq := (pick p).isLt
  show Scalar.select (IntOp.cmpi .eq (BitVec.ofNat 32 k.val) (target (ix2 k p))) (Ideal.ofBits .bf16 0x3F80#16)
    (Ideal.ofBits .bf16 0x0000#16) = _
  rw [target_apply, WordCmp.cmpi_eq_ofNat (by omega) (by omega), Ideal.ofBits_one_bf16, Ideal.ofBits_zero_bf16,
    WordCmp.select_ofBool]
  by_cases h : k = pick p
  · simp [h]
  · have h' : k.val ≠ (pick p).val := fun e => h (Fin.ext e)
    simp [h, h']

end Cert.KernelIdeal.Prep

end
-- ==== Proof.Weights.lean ====
/-
  The weight blocks read at an index over the extended reals: block `s` holds, for group `g`, head `h`, part `k` and
  column `b` below 63, the table's entry of head `h` at distance `63 * (s + 4 * g + k) + b` from the table's last row.
-/
module

public import proofs.«01_k».proof.Proof.HostTerms
public import Idealize.ShloMosaic.Lib.ValueIdxCore
public import Idealize.ShloMosaic.Lib.Pipeline.Value
public import Idealize.ShloMosaic.Lib.KernelVsHost
public import Idealize.ShloMosaic.Lib.WordCmp

@[expose] public section

set_option maxRecDepth 16384

noncomputable section

namespace Cert.KernelIdeal.Prep

open Cert.KernelIdeal Cert.KernelIdeal.Gen Idealize.ShloMosaic Idealize.ShloMosaic.TcCoe Idealize.ShloMosaic.ValueIdx

/-- The row of the table at distance `n` from its last row. -/
def fromEnd (n : Nat) : Fin 3969 := ⟨3968 - n, by omega⟩

/-- The stored list of starting rows, entry by entry: block plus four times the group plus the part. -/
theorem starts : ∀ n : Fin 1024, lit0 n = BitVec.ofNat 32 (n.val / 32 + 4 * (n.val / 4 % 8) + n.val % 4) := by
  decide +kernel

/-- The plane row that block `s`, group `g`, part `k` starts from is `s + 4 * g + k`. -/
theorem rows_apply (s : Fin 32) (g : Fin 8) (k : Fin 4) :
    rows (ix4 (n3 := 1) s g k 0) = BitVec.ofNat 32 (s.val + 4 * g.val + k.val) := by
  have hs := s.isLt
  have hg := g.isLt
  have hk := k.isLt
  have hi : rows (ix4 (n3 := 1) s g k 0) = lit0 (S32x8x4.rowMajor (ix3 s g k)) := by
    show lit0 (S32x8x4.rowMajor _) = lit0 (S32x8x4.rowMajor (ix3 s g k))
    congr 2
    funext a; apply Fin.ext
    match a with
    | ⟨0, _⟩ => rfl
    | ⟨1, _⟩ => rfl
    | ⟨2, _⟩ => rfl
  refine hi.trans ((starts _).trans ?_)
  rw [Shape.rowMajor_val_three]
  congr 1
  show ((s.val * 8 + g.val) * 4 + k.val) / 32 + 4 * (((s.val * 8 + g.val) * 4 + k.val) / 4 % 8)
    + ((s.val * 8 + g.val) * 4 + k.val) % 4 = _
  omega

/-- A plane at head `h`, row `a`, column `b` below 63: the table's entry at distance `63 * a + b` from its end. -/
theorem planes_apply (x : FVec Ideal S3969x16 .f32) (h : Fin 16) (a : Fin 63) (b : Fin 63) :
    planes x (ix3 (n2 := 64) h a ⟨b.val, by omega⟩) = x (ix2 (fromEnd (63 * a.val + b.val)) h) := by
  have ha := a.isLt
  have hb := b.isLt
  unfold planes
  refine (pad_apply_of_inside _ _ _ _ _ _ _ _ (ix3 h a b) ?_).trans ?_
  · intro d
    match d with
    | ⟨0, _⟩ => show h.val = 0 + h.val * (0 + 1); omega
    | ⟨1, _⟩ => show a.val = 0 + a.val * (0 + 1); omega
    | ⟨2, _⟩ => show b.val = 0 + b.val * (0 + 1); omega
  refine (transpose_apply _ _ _ _ (ix3 a b h) ?_).trans ?_
  · intro d
    match d with
    | ⟨0, _⟩ => rfl
    | ⟨1, _⟩ => rfl
    | ⟨2, _⟩ => rfl
  refine (shapeCast_apply _ _ _ (ix2 (n0 := 3969) (n1 := 16) ⟨63 * a.val + b.val, by omega⟩ h) ?_).trans ?_
  · rw [Shape.rowMajor_val_two, Shape.rowMajor_val_three]
    show (63 * a.val + b.val) * 16 + h.val = (a.val * 63 + b.val) * 16 + h.val
    omega
  unfold Host.reverse
  congr 1
  funext d; apply Fin.ext
  match d with
  | ⟨0, _⟩ => show 3969 - (63 * a.val + b.val + 1) = 3968 - (63 * a.val + b.val); omega
  | ⟨1, _⟩ => rfl

/-- The plane rows the host gathers: head `h`, block `s`, group `g`, part `k`, column `c` is plane row
    `s + 4 * g + k`. -/
theorem gather_apply (z : FVec Ideal S16x63x64 .f32) (h : Fin 16) (s : Fin 32) (g : Fin 8) (k : Fin 4) (c : Fin 64) :
    Host.gather gather_S16x63x64_S32x8x4x1_S16x32x8x4x64_04_1_n_n_1_3_16164 z rows (ix5 h s g k c)
      = z (ix3 (n1 := 63) h ⟨s.val + 4 * g.val + k.val, by omega⟩ c) := by
  have hs := s.isLt
  have hg := g.isLt
  have hk := k.isLt
  unfold Host.gather
  congr 1
  set d := gather_S16x63x64_S32x8x4x1_S16x32x8x4x64_04_1_n_n_1_3_16164 with hd
  have hb : ∀ a, d.batchCoord (ix5 h s g k c) a = 0 := fun a => d.batchCoord_eq_zero _ a List.not_mem_nil
  funext a; apply Fin.ext
  show d.start (ix5 h s g k c) rows a + d.batchCoord (ix5 h s g k c) a + d.offCoord (ix5 h s g k c) a = _
  rw [hb a]
  match a with
  | ⟨0, _⟩ =>
    have e : d.start (ix5 h s g k c) rows (0 : Fin 3) = 0 := dif_neg (by decide)
    have e' : d.offCoord (ix5 h s g k c) (0 : Fin 3) = h.val := rfl
    show d.start (ix5 h s g k c) rows (0 : Fin 3) + 0 + d.offCoord (ix5 h s g k c) (0 : Fin 3) = h.val
    rw [e, e']; omega
  | ⟨2, _⟩ =>
    have e : d.start (ix5 h s g k c) rows (2 : Fin 3) = 0 := dif_neg (by decide)
    have e' : d.offCoord (ix5 h s g k c) (2 : Fin 3) = c.val := rfl
    show d.start (ix5 h s g k c) rows (2 : Fin 3) + 0 + d.offCoord (ix5 h s g k c) (2 : Fin 3) = c.val
    rw [e, e']; omega
  | ⟨1, _⟩ =>
    have e' : d.offCoord (ix5 h s g k c) (1 : Fin 3) = 0 := rfl
    have e : d.start (ix5 h s g k c) rows (1 : Fin 3) = min (rows (ix4 (n3 := 1) s g k 0)).toInt.toNat 62 := by
      refine (dif_pos (by decide)).trans ?_
      have hi : d.siIdx (ix5 h s g k c) ⟨0, by decide⟩ = ix4 (n3 := 1) s g k 0 := by
        funext b; apply Fin.ext
        match b with
        | ⟨0, _⟩ => rfl
        | ⟨1, _⟩ => rfl
        | ⟨2, _⟩ => rfl
        | ⟨3, _⟩ => rfl
      rw [← hi]; rfl
    show d.start (ix5 h s g k c) rows (1 : Fin 3) + 0 + d.offCoord (ix5 h s g k c) (1 : Fin 3) = s.val + 4 * g.val + k.val
    rw [e, e', rows_apply, WordCmp.toInt_ofNat_of_lt (by omega)]
    omega

/-- The weight blocks at block `s`, row `16 * g + h`, column `64 * k + b` with `b` below 63. -/
theorem weights_apply (x : FVec Ideal S3969x16 .f32) (s : Fin 32) (g : Fin 8) (h : Fin 16) (k : Fin 4) (b : Fin 63) :
    (weights x (ix3 (n1 := 128) (n2 := 256) s ⟨16 * g.val + h.val, by omega⟩ ⟨64 * k.val + b.val, by omega⟩) : EReal)
      = x (ix2 (fromEnd (63 * (s.val + 4 * g.val + k.val) + b.val)) h) := by
  have hs := s.isLt
  have hg := g.isLt
  have hh := h.isLt
  have hk := k.isLt
  have hb := b.isLt
  unfold weights
  refine (Ideal.truncf_def (φ := .f32) _ .bf16 bitsLt_bf16_f32).trans ?_
  refine (shapeCast_apply _ _ _ (ix5 s g h k (⟨b.val, by omega⟩ : Fin 64)) ?_).trans ?_
  · rw [Shape.rowMajor_val_five, Shape.rowMajor_val_three]
    show (((s.val * 8 + g.val) * 16 + h.val) * 4 + k.val) * 64 + b.val
      = (s.val * 128 + (16 * g.val + h.val)) * 256 + (64 * k.val + b.val)
    omega
  refine (transpose_apply _ _ _ _ (ix5 h s g k (⟨b.val, by omega⟩ : Fin 64)) ?_).trans ?_
  · intro d
    match d with
    | ⟨0, _⟩ => rfl
    | ⟨1, _⟩ => rfl
    | ⟨2, _⟩ => rfl
    | ⟨3, _⟩ => rfl
    | ⟨4, _⟩ => rfl
  rw [gather_apply]
  exact planes_apply x h ⟨s.val + 4 * g.val + k.val, by omega⟩ b

end Cert.KernelIdeal.Prep

end
-- ==== Proof.Array.lean ====
/-
  The kernel's result array over the extended reals: every grid point writes its 32 rows of the expanded bias, and the 32
  points cover the array.
-/
module

public import proofs.«01_k».proof.Proof.Bias
public import proofs.«01_k».proof.Proof.Selector
public import proofs.«01_k».proof.Proof.Weights

@[expose] public section

set_option maxRecDepth 16384

noncomputable section

namespace Cert.KernelIdeal.Result

open Cert.KernelIdeal Cert.KernelIdeal.Gen Cert.KernelIdeal.Expand Cert.KernelIdeal.Prep Idealize.ShloMosaic
  Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Point `t` reads weight block `31 - t`. -/
theorem index_weights : ∀ t : Fin cfg0.N, win0_0.index t = ![31 - t.val, 0, 0] :=
  (by decide +kernel : ∀ t : Fin grid0.N, win0_0.index t = ![31 - t.val, 0, 0])

/-- Every point reads the whole selector. -/
theorem index_selector : ∀ t : Fin cfg0.N, win0_1.index t = ![0, 0] :=
  (by decide +kernel : ∀ t : Fin grid0.N, win0_1.index t = ![0, 0])

/-- Point `t` writes the rows from `32 * t` of every head. -/
theorem index_out : ∀ t : Fin cfg0.N, win0_2.index t = ![0, t.val, 0] :=
  (by decide +kernel : ∀ t : Fin grid0.N, win0_2.index t = ![0, t.val, 0])

/-- There are 32 points. -/
theorem point_lt (t : Fin cfg0.N) : t.val < 32 := lt_of_lt_of_eq t.isLt N_0

/-- The first input block at point `t`. -/
abbrev inWeights (c : Dev nD) (t : Fin cfg0.N) : Vec Ideal S1x128x256 .bf16 := iblk m c 0 t

/-- The second input block at point `t`. -/
abbrev inSelector (c : Dev nD) (t : Fin cfg0.N) : Vec Ideal S256x4096 .bf16 := iblk m c 1 t

/-- The first input block at point `t` is weight block `31 - t`. -/
theorem block_weights (c : Dev nD) (t : Fin cfg0.N) (r : Fin 128) (k : Fin 256) :
    inWeights m c t (ix3 (n0 := 1) 0 r k)
      = weights (F := Ideal) (m ((c : Thread nD τ).loc main_arg0)) (ix3 (n0 := 32) ⟨31 - t.val, by omega⟩ r k) := by
  rw [← V_weights m c]
  have hi := index_weights t
  unfold inWeights iblk
  show V m c main_v11 _ = V m c main_v11 _
  congr 1
  funext a; apply Fin.ext
  match a with
  | ⟨0, _⟩ => show win0_0.index t 0 * 1 + 1 * 0 = 31 - t.val; rw [hi]; show (31 - t.val) * 1 + 1 * 0 = _; omega
  | ⟨1, _⟩ => show win0_0.index t 1 * 128 + 1 * r.val = r.val; rw [hi]; show 0 * 128 + 1 * r.val = _; omega
  | ⟨2, _⟩ => show win0_0.index t 2 * 256 + 1 * k.val = k.val; rw [hi]; show 0 * 256 + 1 * k.val = _; omega

/-- The second input block at every point is the selector. -/
theorem block_selector (c : Dev nD) (t : Fin cfg0.N) (k : Fin 256) (p : Fin 4096) :
    (inSelector m c t (ix2 k p) : EReal) = if k = pick p then 1 else 0 := by
  rw [← selector_apply k p, ← V_selector m c]
  have hi := index_selector t
  unfold inSelector iblk
  show V m c main_v29 _ = V m c main_v29 _
  congr 1
  funext a; apply Fin.ext
  match a with
  | ⟨0, _⟩ => show win0_1.index t 0 * 256 + 1 * k.val = k.val; rw [hi]; show 0 * 256 + 1 * k.val = _; omega
  | ⟨1, _⟩ => show win0_1.index t 1 * 4096 + 1 * p.val = p.val; rw [hi]; show 0 * 4096 + 1 * p.val = _; omega

/-- The body's output block at point `t`: rows `32 * t` to `32 * t + 31` of the expanded bias. -/
theorem block_out (c : Dev nD) (t : Fin cfg0.N) (h : Fin 16) (w : Fin 32) (j : Fin 1024) :
    (out0_2 (inWeights m c t) (inSelector m c t) (ix3 h w j) : EReal)
      = m ((c : Thread nD τ).loc main_arg0)
          (ix2 (n0 := 3969) (n1 := 16) (Bias.entry ⟨32 * t.val + w.val, by have := point_lt t; omega⟩ j) h) := by
  have ht := point_lt t
  have hw := w.isLt
  have hj := j.isLt
  have hh := h.isLt
  rw [out_spread]
  show k0_pay67 (inWeights m c t) (inSelector m c t) (ix2 _ _) = _
  rw [product_select _ _ (block_selector m c t)]
  refine (block_weights m c t _ _).trans ?_
  have e := weights_apply (m ((c : Thread nD τ).loc main_arg0)) ⟨31 - t.val, by omega⟩ ⟨j.val / 128, by omega⟩ h
    ⟨j.val % 128 / 32, by omega⟩ ⟨31 - w.val + j.val % 32, by omega⟩
  refine Eq.trans (congrArg _ ?_) (e.trans (congrArg _ ?_))
  · funext a; apply Fin.ext
    match a with
    | ⟨0, _⟩ => rfl
    | ⟨1, _⟩ => rfl
    | ⟨2, _⟩ =>
      show 64 * ((128 * w.val + j.val % 128) % 128 / 32) + (31 - (128 * w.val + j.val % 128) / 128)
          + (128 * w.val + j.val % 128) % 32
        = 64 * (j.val % 128 / 32) + (31 - w.val + j.val % 32)
      omega
  · funext a; apply Fin.ext
    match a with
    | ⟨0, _⟩ =>
      show 3968 - (63 * (31 - t.val + 4 * (j.val / 128) + j.val % 128 / 32) + (31 - w.val + j.val % 32))
        = 63 * ((32 * t.val + w.val) / 32 + 31 - j.val / 32) + ((32 * t.val + w.val) % 32 + 31 - j.val % 32)
      omega
    | ⟨1, _⟩ => rfl

/-- The expanded bias of device `c`'s table: what the result array is shown to hold. -/
abbrev bias (c : Dev nD) : Buf (Elt Ideal) ((c : Thread nD τ).loc main_v30) :=
  Bias.expand (m ((c : Thread nD τ).loc main_arg0))

/-- What point `t` writes back is its block of the expanded bias. -/
theorem flushed_eq (c : Dev nD) (t : Fin cfg0.N) :
    (dats m 0 c).flushed 2 t = ((cfg0.win 2).blk t).view.read (Elt Ideal) (bias m c) := by
  rw [Value.flushed2]
  have hi := index_out t
  funext y
  refine (congrArg (out0_2 (inWeights m c t) (inSelector m c t)) (eq_ix3 (n0 := 16) (n1 := 32) (n2 := 1024) y)).trans ?_
  refine (block_out m c t _ _ _).trans ?_
  show m ((c : Thread nD τ).loc main_arg0) _ = m ((c : Thread nD τ).loc main_arg0) _
  have e0 : win0_2.index t 0 * 16 + 1 * (y 0).val = (y 0).val := by rw [hi]; show 0 * 16 + 1 * (y 0).val = _; omega
  have e1 : win0_2.index t 1 * 32 + 1 * (y 1).val = 32 * t.val + (y 1).val := by
    rw [hi]; show t.val * 32 + 1 * (y 1).val = _; omega
  have e2 : win0_2.index t 2 * 1024 + 1 * (y 2).val = (y 2).val := by rw [hi]; show 0 * 1024 + 1 * (y 2).val = _; omega
  congr 1
  funext a; apply Fin.ext
  match a with
  | ⟨0, _⟩ =>
    show 63 * ((32 * t.val + (y 1).val) / 32 + 31 - (y 2).val / 32) + ((32 * t.val + (y 1).val) % 32 + 31 - (y 2).val % 32)
      = 63 * ((win0_2.index t 1 * 32 + 1 * (y 1).val) / 32 + 31 - (win0_2.index t 2 * 1024 + 1 * (y 2).val) / 32)
        + ((win0_2.index t 1 * 32 + 1 * (y 1).val) % 32 + 31 - (win0_2.index t 2 * 1024 + 1 * (y 2).val) % 32)
    rw [e1, e2]
  | ⟨1, _⟩ => exact e0.symm

/-- Every index of the result array is in some point's block: row `r` is in that of point `r / 32`. -/
theorem cover (i : S16x1024x1024.Idx) :
    ∃ t : Fin cfg0.N, (cfg0.win 2).flush t = true ∧ i ∈ ((cfg0.win 2).blk t).view.set := by
  have h0 : (i 0 : Nat) < 16 := (i 0).isLt
  have h1 : (i 1 : Nat) < 1024 := (i 1).isLt
  have h2 : (i 2 : Nat) < 1024 := (i 2).isLt
  have hN : cfg0.N = 32 := N_0
  let t : Fin cfg0.N := ⟨(i 1 : Nat) / 32, by omega⟩
  refine ⟨t, flush0_2 _, ?_⟩
  have hi := index_out t
  show i ∈ ((View.whole main_v30).slice (win0_2.rect t)).set
  rw [View.set_slice_whole, Rect.mem_set_unit]
  intro a
  match a with
  | ⟨0, _⟩ =>
    show win0_2.index t 0 * 16 ≤ (i 0 : Nat) ∧ (i 0 : Nat) < win0_2.index t 0 * 16 + 16
    rw [hi]; show 0 * 16 ≤ (i 0 : Nat) ∧ (i 0 : Nat) < 0 * 16 + 16; omega
  | ⟨1, _⟩ =>
    show win0_2.index t 1 * 32 ≤ (i 1 : Nat) ∧ (i 1 : Nat) < win0_2.index t 1 * 32 + 32
    rw [hi]; show (i 1 : Nat) / 32 * 32 ≤ (i 1 : Nat) ∧ (i 1 : Nat) < (i 1 : Nat) / 32 * 32 + 32; omega
  | ⟨2, _⟩ =>
    show win0_2.index t 2 * 1024 ≤ (i 2 : Nat) ∧ (i 2 : Nat) < win0_2.index t 2 * 1024 + 1024
    rw [hi]; show 0 * 1024 ≤ (i 2 : Nat) ∧ (i 2 : Nat) < 0 * 1024 + 1024; omega

/-- So the result array ends holding the expanded bias. -/
theorem final (c : Dev nD) : (dats m 0 c).arrAt 2 cfg0.N = bias m c :=
  (dats m 0 c).arrAt_eq_of_cover 2 (bias m c) (fun t _ => flushed_eq m c t) cover

/-- The kernel's run: the result array at the expanded bias of the table, the arguments unchanged. -/
theorem run : θ_run defs (onTc (τ := τ) (main (F := Ideal))) ⟨m, fun _ => 0, ρ⟩ fun r => ∀ c : Dev nD,
      r.2.mem ((c : Thread nD τ).loc main_v30) = bias m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks (F := Ideal) m ρ)

end Cert.KernelIdeal.Result

end
-- ==== Proof.Reference.lean ====
/-
  The reference's result under the precondition: the expanded bias of the table.
-/
module

public import proofs.«01_k».proof.Proof.Gen.ReferenceIdeal.Run
public import proofs.«01_k».proof.Proof.Pre
public import Idealize.ShloMosaic.Lib.Routing.Ops
public import Idealize.ShloMosaic.Lib.ReduceAll
public import Idealize.ShloMosaic.Lib.Pipeline.Value
public import Idealize.ShloMosaic.Lib.KernelVsHost

@[expose] public section

set_option maxRecDepth 16384

noncomputable section

namespace Cert.ReferenceIdeal.Lookup

open Cert.ReferenceIdeal Cert.ReferenceIdeal.Gen Idealize.ShloMosaic Idealize.ShloMosaic.TcCoe Idealize.ShloMosaic.ValueIdx
  Idealize.SL.Sem

variable {F : FTy → Type} [FloatOps F]

/-- The row numbers as one column, a negative one counted from the table's end. -/
def column (w : IVec S1048576 32) : IVec S1048576x1 32 :=
  broadcastInDim S1048576x1 ![0] bcast_S1048576_S1048576x1_0
    (select (cmpi .slt w (broadcastInDim S1048576 ![] bcast_S_S1048576 (constantI S_ 32 0#32)))
      (addi w (broadcastInDim S1048576 ![] bcast_S_S1048576 (constantI S_ 32 3969#32))) w)

/-- Per row number, whether it lies in the table. -/
def inside (u : IVec S1048576x1 32) : IVec S1048576 1 :=
  Host.reduce IntOp.andi
    (andi (cmpi .sge u (broadcastInDim S1048576x1 ![] bcast_S_S1048576x1 (constantI S_ 32 0#32)))
      (cmpi .sle u (broadcastInDim S1048576x1 ![0, 1] bcast_S1x1_S1048576x1_0_1
        (broadcastInDim S1x1 ![1] bcast_S1_S1x1_1 (constantI S1 32 3968#32)))))
    (constantI S_ 1 1#1) reducesTo_S1048576x1_S1048576_d1 h_S_

/-- The rows of the table at the row numbers, a fixed value where the number is outside the table. -/
def taken (x : FVec F S3969x16 .f32) (w : IVec S1048576 32) : FVec F S1048576x16 .f32 :=
  select (broadcastInDim S1048576x16 ![0] bcast_S1048576_S1048576x16_0 (inside (column w)))
    (Host.gather gather_S3969x16_S1048576x1_S1048576x16_1_0_n_n_0_1_116 x (column w))
    (broadcastInDim S1048576x16 ![] bcast_S_S1048576x16 (constant S_ .f32 0x7FC00000#32))

/-- The reference's result as a function of its arguments. -/
def result (x : FVec F S3969x16 .f32) (idx : IVec S1024x1024 32) : FVec F S16x1024x1024 .f32 :=
  transpose S16x1024x1024 [2, 0, 1]
    (shapeCast S1024x1024x16 (taken x (shapeCast S1048576 idx shapeCasts_S1024x1024_S1048576)) shapeCasts_S1048576x16_S1024x1024x16)
    transposes_S1024x1024x16_S16x1024x1024_2_0_1

section Rows

variable (w : IVec S1048576 32) (e : Fin 1048576 → Fin 3969) (hw : ∀ n, w (ix1 n) = BitVec.ofNat 32 (e n).val)
include hw

/-- Row numbers of the table stand in the column unchanged. -/
theorem column_apply (n : Fin 1048576) (z : Fin 1) : column w (ix2 n z) = BitVec.ofNat 32 (e n).val := by
  have he := (e n).isLt
  have hi : column w (ix2 n z) = Scalar.select (IntOp.cmpi .slt (w (ix1 n)) (BitVec.ofNat 32 0)) (IntOp.addi (w (ix1 n)) 3969#32)
      (w (ix1 n)) := by
    have hb : ∀ f : IVec S1048576 32, broadcastInDim S1048576x1 ![0] bcast_S1048576_S1048576x1_0 f (ix2 n z) = f (ix1 n) := fun f =>
      congrArg f (by funext a; match a with | ⟨0, _⟩ => rfl)
    exact hb _
  rw [hi, hw, WordCmp.cmpi_slt_ofNat (by omega) (by omega), WordCmp.select_ofBool]
  simp

/-- And each passes the check that it lies in the table. -/
theorem inside_apply (j : S1048576.Idx) : inside (column w) j = 1#1 := by
  refine Host.reduce_andi_one _ _ _ _ j rfl fun i => ?_
  obtain ⟨n, z, rfl⟩ : ∃ n z, i = ix2 (n0 := 1048576) (n1 := 1) n z := ⟨i 0, i 1, by funext a; match a with | ⟨0, _⟩ => rfl | ⟨1, _⟩ => rfl⟩
  have he := (e n).isLt
  show IntOp.andi (IntOp.cmpi .sge (column w (ix2 n z)) (BitVec.ofNat 32 0)) (IntOp.cmpi .sle (column w (ix2 n z)) (BitVec.ofNat 32 3968)) = _
  rw [column_apply w e hw, WordCmp.cmpi_sge_ofNat (by omega) (by omega), WordCmp.cmpi_sle_ofNat (by omega) (by omega), WordCmp.andi_ofBool]
  have h1 : (e n).val ≤ 3968 := by omega
  simp [h1]

/-- So what is taken at `n` is the table's row there. -/
theorem taken_apply (x : FVec F S3969x16 .f32) (n : Fin 1048576) (h : Fin 16) : taken x w (ix2 n h) = x (ix2 (e n) h) := by
  have hi : broadcastInDim S1048576x16 ![0] bcast_S1048576_S1048576x16_0 (inside (column w)) (ix2 n h) = 1#1 :=
    inside_apply w e hw _
  unfold taken
  rw [WordCmp.select_at, hi, WordCmp.select_one]
  exact Routing.gather_row gather_S3969x16_S1048576x1_S1048576x16_1_0_n_n_0_1_116 rfl rfl rfl rfl rfl x (column w) n h (e n)
    (column_apply w e hw n 0) (by decide)

end Rows

/-- Under the precondition the reference's result is the expanded bias of the table. -/
theorem result_eq (x : FVec F S3969x16 .f32) (idx : IVec S1024x1024 32)
    (hidx : ∀ q k : Fin 1024, idx (ix2 q k) = BitVec.ofNat 32 (Bias.entry q k).val) : result x idx = Bias.expand x := by
  funext y
  obtain ⟨h, q, k, rfl⟩ : ∃ h q k, y = ix3 (n0 := 16) (n1 := 1024) (n2 := 1024) h q k :=
    ⟨y 0, y 1, y 2, by funext a; match a with | ⟨0, _⟩ => rfl | ⟨1, _⟩ => rfl | ⟨2, _⟩ => rfl⟩
  have hq := q.isLt
  have hk := k.isLt
  refine (transpose_apply _ _ _ _ (ix3 q k h) ?_).trans ?_
  · intro a; match a with | ⟨0, _⟩ => rfl | ⟨1, _⟩ => rfl | ⟨2, _⟩ => rfl
  refine (shapeCast_apply _ _ _ (ix2 (n0 := 1048576) (n1 := 16) ⟨1024 * q.val + k.val, by omega⟩ h) ?_).trans ?_
  · rw [Shape.rowMajor_val_two, Shape.rowMajor_val_three]
    show (1024 * q.val + k.val) * 16 + h.val = (q.val * 1024 + k.val) * 16 + h.val
    omega
  refine (taken_apply _ (fun n => Bias.entry ⟨n.val / 1024, by omega⟩ ⟨n.val % 1024, by omega⟩) (fun n => ?_) x _ h).trans ?_
  · refine (shapeCast_apply _ _ _ (ix2 (n0 := 1024) (n1 := 1024) ⟨n.val / 1024, by omega⟩ ⟨n.val % 1024, by omega⟩) ?_).trans (hidx _ _)
    rw [Shape.rowMajor_val_one, Shape.rowMajor_val_two]
    show n.val / 1024 * 1024 + n.val % 1024 = n.val
    omega
  · show x (ix2 (Bias.entry _ _) h) = x (ix2 (Bias.entry q k) h)
    have e1 : (⟨(1024 * q.val + k.val) / 1024, by omega⟩ : Fin 1024) = q := Fin.ext (by show (1024 * q.val + k.val) / 1024 = _; omega)
    have e2 : (⟨(1024 * q.val + k.val) % 1024, by omega⟩ : Fin 1024) = k := Fin.ext (by show (1024 * q.val + k.val) % 1024 = _; omega)
    show x (ix2 (Bias.entry ⟨(1024 * q.val + k.val) / 1024, _⟩ ⟨(1024 * q.val + k.val) % 1024, _⟩) h) = _
    rw [e1, e2]

/-- The reference's run: the result array at the expanded bias of the table where the index array holds each pair's row,
    the arguments unchanged. -/
theorem run (m : (ℓ : Loc nD τ sig) → Buf (Elt Ideal) ℓ) (ρ : Dev nD → PrngReg)
    (hidx : ∀ (c : Dev nD) (q k : Fin 1024),
      (m ((c : Thread nD τ).loc main_arg1) : IVec S1024x1024 32) (ix2 q k) = BitVec.ofNat 32 (Bias.entry q k).val) :
    θ_run defs (onTc (τ := τ) (main (F := Ideal))) ⟨m, fun _ => 0, ρ⟩ fun r => ∀ c : Dev nD,
      r.2.mem ((c : Thread nD τ).loc main_v3) = (Bias.expand (m ((c : Thread nD τ).loc main_arg0) : FVec Ideal S3969x16 .f32) : FVec Ideal S16x1024x1024 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq (F := Ideal) _ _ (hidx c)), (h c).2⟩) (Value.run (F := Ideal) m ρ)

end Cert.ReferenceIdeal.Lookup

end
-- ==== Proof.lean ====
/-
  The certificate: the kernel runs and leaves its arguments as they were, at bit-exact and at extended-real floats, and
  over the extended reals it and the reference compute the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Pre
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs from any memory, ends with its arguments unchanged and every counter at zero. -/
theorem kernel_frame : quiescent_Kernel (hKernel := Cert.Kernel.Gen.facts) :=
  fun m ρ _ => Cert.Kernel.Gen.frame m ρ

/-- The same of the kernel over the extended reals. -/
theorem ideal_frame : quiescent_KernelIdeal (hKernelIdeal := Cert.KernelIdeal.Gen.facts) :=
  fun m ρ _ => Cert.KernelIdeal.Gen.frame m ρ

/-- The same of the reference over the extended reals. -/
theorem reference_frame : quiescent_ReferenceIdeal (hReferenceIdeal := Cert.ReferenceIdeal.Gen.facts) :=
  fun m ρ _ => (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- From equal arguments satisfying the precondition, the kernel and the reference over the extended reals both end
    with the expanded bias of the table. -/
theorem same_value : algebraic_KernelIdeal_ReferenceIdeal_pre_index_is_relative (hKernelIdeal := Cert.KernelIdeal.Gen.facts)
    (hReferenceIdeal := Cert.ReferenceIdeal.Gen.facts) (hPre_index_is_relative := Cert.Pre_index_is_relative.facts) := by
  intro m ρ m' ρ' hpre hagree
  refine ⟨fun c => Cert.KernelIdeal.Result.bias m c, Cert.KernelIdeal.Result.run m ρ, ?_⟩
  have hidx : ∀ (c : Dev Cert.ReferenceIdeal.nD) (q k : Fin 1024),
      (m' ((c : Thread Cert.ReferenceIdeal.nD Cert.ReferenceIdeal.τ).loc Cert.ReferenceIdeal.main_arg1) : IVec Cert.ReferenceIdeal.S1024x1024 32)
        (ValueIdx.ix2 q k) = BitVec.ofNat 32 (Cert.Bias.entry q k).val := fun c q k =>
    (congrFun (hagree c).2 _).trans
      (@Cert.Pre_index_is_relative.index_eq Cert.Pre_index_is_relative.facts Ideal _ _ _ (hpre c) q k)
  exact (θ_run Cert.ReferenceIdeal.defs _ _).mono
    (fun _ h c => ⟨(h c).1.trans (congrArg (fun x => Cert.Bias.expand x) (hagree c).1), (h c).2⟩)
    (Cert.ReferenceIdeal.Lookup.run m' ρ' hidx)

/-- All claims together. -/
theorem claim : Cert.Claim :=
  ⟨Cert.Kernel.Gen.facts, Cert.KernelIdeal.Gen.facts, Cert.ReferenceIdeal.Gen.facts, Cert.Pre_index_is_relative.facts,
    kernel_frame, ideal_frame, fun m ρ _ => ideal_frame m ρ trivial, reference_frame,
    fun m ρ _ => reference_frame m ρ trivial, trivial, same_value⟩

end Cert.Proof

end
